-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ bitexact_Kernel_Reference (hKernel := hKernel) (hReference := hReference) (hPre_in_range := hPre_in_range)
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x32 : Shape := ⟨2, ![1000000, 32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x32 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x32 : Shape := ⟨2, ![1000000, 32]⟩
abbrev S16384x32 : Shape := ⟨2, ![16384, 32]⟩
abbrev S8192 : Shape := ⟨1, ![8192]⟩
abbrev S_ : Shape := ⟨0, ![]⟩
abbrev S1 : Shape := ⟨1, ![1]⟩
abbrev S1x32 : Shape := ⟨2, ![1, 32]⟩

abbrev nBuf : Table → Nat
  | .hbm => 3
  | .local .scScalar .smem => 1
  | _ => 0

abbrev bufTy : (tb : Table) → Fin (nBuf tb) → BufTy
  | .hbm, ⟨0, _⟩ => ⟨S16384, .i32⟩
  | .hbm, ⟨1, _⟩ => ⟨S1000000x32, .f32⟩
  | .hbm, ⟨2, _⟩ => ⟨S16384x32, .f32⟩
  | .local .scScalar .smem, ⟨0, _⟩ => ⟨S8192, .i32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_arg0_scs : Ref sig .scScalar := ⟨.hbm, 0, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 1 → Nat :=
  let arg0 : BitVec 32 := BitVec.ofNat 32 (i 0).val
  let c8192_i32 : BitVec 32 := 8192#32
  let v0 : BitVec 32 := Scalar.muli arg0 c8192_i32
  ![v0.toNat]
@[reducible] def k0_t1_loop : Scf.Loop 32 :=
  let c0_i32 : BitVec 32 := 0#32
  let c8192_i32_0 : BitVec 32 := 8192#32
  let v3 : BitVec 32 := Scalar.addi c0_i32 c8192_i32_0
  let c1_i32 : BitVec 32 := 1#32
  ⟨c0_i32, v3, c1_i32⟩
def k0_off2 (k0_t1 : Fin k0_t1_loop.trips) : Fin 1 → Nat :=
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v5 : BitVec 32 := Scalar.muli arg7 c1_i32_6
  let v6 : BitVec 32 := Scalar.addi c0_i32_7 v5
  let v7 : Index := Scalar.indexCast v6
  ![v7.toNat]
def k0_off3 (i : grid0.Coords) (k0_t1 : Fin k0_t1_loop.trips) : Fin 2 → Nat :=
  let arg0 : BitVec 32 := BitVec.ofNat 32 (i 0).val
  let c8192_i32 : BitVec 32 := 8192#32
  let v0 : BitVec 32 := Scalar.muli arg0 c8192_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v5 : BitVec 32 := Scalar.muli arg7 c1_i32_6
  let v6 : BitVec 32 := Scalar.addi c0_i32_7 v5
  let v9 : BitVec 32 := Scalar.addi v0 v6
  let c0_i32_8 : BitVec 32 := 0#32
  ![v9.toNat, 0]
def k0_off4 (v8 : BitVec 32) : Fin 2 → Nat :=
  let c0_i32_9 : BitVec 32 := 0#32
  ![v8.toNat, 0]

def k0_chk1 (v8 : BitVec 32) : Prop :=
  (∀ a, (k0_off4 v8) a + S1x32.size a ≤ S1000000x32.size a)
theorem k0_off4_inb : ∀ (v8 : BitVec 32) (k0_hw1 : k0_chk1 v8), ∀ a, (k0_off4 v8) a + S1x32.size a ≤ S1000000x32.size a := fun v8 k0_hw1 => k0_hw1

@[reducible] def k0_t2_loop : Scf.Loop 32 :=
  let c0_i32_2 : BitVec 32 := 0#32
  let c8192_i32_3 : BitVec 32 := 8192#32
  let v4 : BitVec 32 := Scalar.addi c0_i32_2 c8192_i32_3
  let c1_i32_4 : BitVec 32 := 1#32
  ⟨c0_i32_2, v4, c1_i32_4⟩
def k0_off5 (i : grid0.Coords) : Fin 2 → Nat :=
  let arg0 : BitVec 32 := BitVec.ofNat 32 (i 0).val
  let c8192_i32 : BitVec 32 := 8192#32
  let v0 : BitVec 32 := Scalar.muli arg0 c8192_i32
  let c0_i32_8 : BitVec 32 := 0#32
  ![v0.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x32, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x32, .f32⟩
  | .hbm, ⟨21, _⟩ => ⟨S16384x32, .i1⟩
  | .hbm, ⟨22, _⟩ => ⟨S_, .f32⟩
  | .hbm, ⟨23, _⟩ => ⟨S16384x32, .f32⟩
  | .hbm, ⟨24, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The kernel's program as the launch theorem reads it, the arrays it moves, and the rows it moves them by. On each of the
  two scalar sequencers the kernel copies its half of the indices into scalar memory, starts one copy per index — the
  table's row the index names into the result's row at the index's position — and waits for all of them on one
  semaphore. Here: the names of the arrays, the rows of the table and of the result as sets of elements, the result
  the whole gather leaves (`gath`), and what each copy delivers.
-/
module

public import proofs.«01_k».proof.Defs
public import Idealize.ShloMosaic.Lib.SparseCore.Quiescent
public import Idealize.ShloMosaic.Lib.Batch
public import Idealize.ShloMosaic.Lib.Ring
public import Idealize.ShloMosaic.Lib.Pipeline.Kit
public import Idealize.ShloMosaic.Lib.ValueIdx
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)

variable {F : FTy → Type}

/-! ## The program as the launch theorem sees it -/

/-- The labels of the program's calls. -/
abbrev ΛP : Labels := Pipeline.Sig Λ₀ (Fin 0) fun p => (pcfgs (F := F) p).Adm
/-- The one call of the program. -/
abbrev K : SparseCore.Cfg τ sig (ΛP (F := F)) 1 := sc (F := F)
/-- The bodies that the calls run. -/
abbrev D [FloatOps F] : Defs nD τ sig (Elt F) (ΛP (F := F)) := Pipeline.defs pcfgs defs₀
/-- The kernel recurses nowhere: no variants. -/
abbrev 𝒱₀ : Variants := Variants.none
/-- The same for the whole program. -/
abbrev 𝒱 : Variants := 𝒱₀.lift
/-- The one variant. -/
abbrev v₀ : 𝒱.V := Sum.inl none

/-- The launch's semaphores are distinct and live outside any kernel, and no SparseCore's own memory is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's rounds beside the copies' counters -/

/-- The ghost state of the handshakes. -/
abbrev UH : Type := Rounds.URounds (GSem nD τ sig) ℕ
/-- The program's ghost state: the handshakes' and the counters'. -/
abbrev UU : Type := UH × Counters

local notation "𝕄" => MT nD τ sig (HIx 1) (Elt F) ℕ UU ℕ

/-- Where the handshakes' part lies in it. -/
abbrev EH : Emb UH (MT nD τ sig (HIx 1) (Elt F) ℕ UU ℕ) := embL

/-! ## The arrays -/

/-- The indices, the table and the result, on device `d`. -/
abbrev iLoc (d : Dev nD) : Loc nD τ sig := (SparseCore.T d).loc main_arg0
/-- The table. -/
abbrev tLoc (d : Dev nD) : Loc nD τ sig := (SparseCore.T d).loc main_arg1
/-- The result. -/
abbrev oLoc (d : Dev nD) : Loc nD τ sig := (SparseCore.T d).loc main_v0

/-- The same arrays as the kernel names them, and its index scratch in scalar memory. -/
abbrev iM : Memref sig .scScalar .hbm S16384 .i32 := Memref.whole main_arg0_scs
/-- The table, as a sequencer sees it. -/
abbrev tM : Memref sig .scScalar .hbm S1000000x32 .f32 := Memref.whole main_arg1_scs
/-- The result, as a sequencer sees it. -/
abbrev oM : Memref sig .scScalar .hbm S16384x32 .f32 := Memref.whole main_v0_scs
/-- A sequencer's scalar memory. -/
abbrev sM : Memref sig .scScalar .smem S8192 .i32 := Memref.whole cc0_scratch0

/-- What the arrays hold, as functions of their indices. -/
abbrev Ind : Type := S16384.Idx → BitVec 32
/-- A table's contents. -/
abbrev Tab (F : FTy → Type) : Type := S1000000x32.Idx → F .f32
/-- A result's contents. -/
abbrev Out (F : FTy → Type) : Type := S16384x32.Idx → F .f32

/-! ## Rows -/

/-- The result's row `r`, and the table's. -/
def oRow (r : ℕ) : Finset S16384x32.Idx := Finset.univ.filter fun x => (x 0).val = r
/-- Row `r` of the table. -/
def tRow (r : ℕ) : Finset S1000000x32.Idx := Finset.univ.filter fun x => (x 0).val = r

/-- An element lies in row `r` of the result when its first coordinate is `r`. -/
theorem mem_oRow (r : ℕ) (x : S16384x32.Idx) : x ∈ oRow r ↔ (x 0).val = r := by simp [oRow]
/-- An element lies in row `r` of the table when its first coordinate is `r`. -/
theorem mem_tRow (r : ℕ) (x : S1000000x32.Idx) : x ∈ tRow r ↔ (x 0).val = r := by simp [tRow]

/-- Two rows of the result share no element. -/
theorem oRow_disjoint {r r' : ℕ} (h : r ≠ r') : Disjoint (oRow r) (oRow r') := by
  rw [Finset.disjoint_left]; intro x hx hx'; rw [mem_oRow] at hx hx'; omega

/-- The table row that index `r` names. -/
def src (I : Ind) (r : ℕ) : ℕ := if h : r < 16384 then (I (ix1 ⟨r, h⟩)).toNat else 0

/-- Every index names a row of the table. -/
def InRange (I : Ind) : Prop := ∀ r : ℕ, src I r < 1000000

/-- The gather: row `r` of the result is the table's row that index `r` names. -/
def gath (I : Ind) (X : Tab F) : Out F := fun x => X (ix2 ⟨min (src I (x 0).val) 999999, by omega⟩ (x 1))

/-- A window of one row of the result is that row; -/
theorem oRow_eq {off : Fin 2 → ℕ} {r : ℕ} (hoff : off = ![r, 0]) (inb : ∀ a, off a + S1x32.size a ≤ S16384x32.size a) :
    (Rect.unit (s := S16384x32) off S1x32.size inb).set = oRow r := by
  subst hoff
  ext x; rw [Rect.mem_set_unit, mem_oRow]
  have h1 : (x 1).val < 32 := (x 1).isLt
  constructor
  · intro H; have a0 : r ≤ (x 0).val ∧ (x 0).val < r + 1 := H 0; omega
  · intro H a; fin_cases a
    · show r ≤ (x 0).val ∧ (x 0).val < r + 1; omega
    · show 0 ≤ (x 1).val ∧ (x 1).val < 0 + 32; omega

/-- and of the table likewise. -/
theorem tRow_eq {off : Fin 2 → ℕ} {r : ℕ} (hoff : off = ![r, 0]) (inb : ∀ a, off a + S1x32.size a ≤ S1000000x32.size a) :
    (Rect.unit (s := S1000000x32) off S1x32.size inb).set = tRow r := by
  subst hoff
  ext x; rw [Rect.mem_set_unit, mem_tRow]
  have h1 : (x 1).val < 32 := (x 1).isLt
  constructor
  · intro H; have a0 : r ≤ (x 0).val ∧ (x 0).val < r + 1 := H 0; omega
  · intro H a; fin_cases a
    · show r ≤ (x 0).val ∧ (x 0).val < r + 1; omega
    · show 0 ≤ (x 1).val ∧ (x 1).val < 0 + 32; omega

/-! ## The loops' trip counts -/

/-- The issuing loop makes 8192 trips. -/
theorem t1_trips : k0_t1_loop.trips = 8192 := by decide
/-- The draining loop makes 8192 trips. -/
theorem t2_trips : k0_t2_loop.trips = 8192 := by decide

/-! ## What one copy delivers -/

section Deliver

variable (d : Dev nD) (I : Ind) (X : Tab F)

/-- The result's row `r` at contents `f`; -/
abbrev oPart (f : Out F) (r : ℕ) : sProp 𝕄 := oLoc d ↦[oRow r]{fullShare} f
/-- the `t`-th read share of `q` of the table, at the row index `r` names; -/
abbrev tPart (q : PosShare TreeShare) (t r : ℕ) : sProp 𝕄 := tLoc d ↦[tRow (src I r)]{Transfers.shareTokN q t} X

/-- Copy `t` of core `c` delivers the result's row `8192 c + t` at the gathered values and gives back the table's row. -/
def deliv (q : PosShare TreeShare) (c : ℕ) (t : Fin 8192) : sProp 𝕄 :=
  iprop(oPart d (gath I X) (8192 * c + t.val) ∗ tPart d I X q t.val (8192 * c + t.val))

instance deliv_storable (q : PosShare TreeShare) (c : ℕ) (t : Fin 8192) : BI.Storable (upEmb : UEmb _ 𝕄) (deliv d I X q c t) := by
  unfold deliv; infer_instance

/-- What copy `t` of core `c` takes: the same row of the result at the contents `f` it has, and the table's row. -/
def item (f : Out F) (q : PosShare TreeShare) (c : ℕ) (t : Fin 8192) : sProp 𝕄 :=
  iprop(oPart d f (8192 * c + t.val) ∗ tPart d I X q t.val (8192 * c + t.val))

end Deliver

end Cert.Proof.Gather

end
-- ==== Proof.Pre.lean ====
/-
  The precondition, read back: where the printed predicate `in_range` is 1, every index word names a row of the table.
-/
module

public import proofs.«01_k».proof.Proof.Setup
public import proofs.«01_k».proof.Proof.Gen.Pre_in_range
public import Idealize.ShloMosaic.Lib.ReduceAll
public import Idealize.ShloMosaic.Lib.StableHlo.Predicate

@[expose] public section

noncomputable section

namespace Cert.Proof.Gather

open Idealize.ShloMosaic Idealize.ShloMosaic.ValueIdx

variable {F : FTy → Type} [FloatOps F]

/-- A word that is at least 0 and below a million, read as a signed number, is below a million read as a natural number. -/
theorem word_lt (w : BitVec 32) (h0 : (0#32).toInt ≤ w.toInt) (h1 : w.toInt < (1000000#32).toInt) : w.toNat < 1000000 := by
  have e0 : (0#32).toInt = 0 := by decide
  have e1 : (1000000#32).toInt = 1000000 := by decide
  rw [e0] at h0; rw [e1] at h1
  rw [BitVec.toInt_eq_toNat_cond] at h0 h1
  have := w.isLt
  split at h0 <;> omega

/-- The predicate at 1 bounds every index word. -/
theorem pre_word (I : IVec Cert.Pre_in_range.S16384 32) (X : FVec F Cert.Pre_in_range.S1000000x32 .f32)
    (h : Cert.Pre_in_range.fn (F := F) I X = fun _ => 1#1) (x : Cert.Pre_in_range.S16384.Idx) : (I x).toNat < 1000000 := by
  have h' := congrFun h ix0
  dsimp only [Cert.Pre_in_range.fn] at h'
  haveI : Subsingleton Cert.Pre_in_range.S_.Idx := ⟨fun a b => funext fun i => i.elim0⟩
  have hx := Host.reduce_andi_all _ _ _ _ _ h' x
  obtain ⟨ha, hb⟩ := IntOp.andi_eq_one.1 hx
  exact word_lt _ (IntOp.cmpi_sge.1 ha) (IntOp.cmpi_slt.1 hb)

/-- The predicate at 1 says that the words name rows of the table. -/
theorem inRange_of_pre (I : Ind) (X : Tab F) (h : Cert.Pre_in_range.fn (F := F) I X = fun _ => 1#1) : InRange I := by
  intro r
  unfold src
  split
  · exact pre_word I X h _
  · omega

end Cert.Proof.Gather

end
-- ==== Proof.RefValue.lean ====
/-
  What the reference's `jnp.take` computes where every index names a row: no index is moved, no row is masked out, and
  the gather reads the very row that the index names.
-/
module

public import proofs.«01_k».proof.Proof.Setup
public import proofs.«01_k».proof.Proof.Gen.Reference.Run
public import Idealize.ShloMosaic.Lib.ReduceAll
public import Idealize.ShloMosaic.Lib.Routing.Ops

@[expose] public section

noncomputable section

namespace Cert.Proof.Gather

open Cert.Reference Cert.Reference.Gen
open Idealize.ShloMosaic Idealize.ShloMosaic.ValueIdx

variable {F : FTy → Type}

/-- In range, each word is below a million. -/
theorem inRange_word (I : Ind) (hI : InRange I) (c : Fin 16384) : (I (ix1 c)).toNat < 1000000 := by
  have h := hI c.val
  unfold src at h
  rwa [dif_pos c.isLt] at h

/-- A word below a million is the same number read as signed. -/
theorem word_toInt (w : BitVec 32) (h : w.toNat < 1000000) : w.toInt = w.toNat := by
  rw [BitVec.toInt_eq_toNat_cond, if_pos (by omega)]

/-- The reference's start indices, as one column: a negative index is counted from the table's end. -/
abbrev starts (I : Ind) : IVec S16384x1 32 :=
  broadcastInDim S16384x1 ![0] bcast_S16384_S16384x1_0
    (select (cmpi .slt I (broadcastInDim S16384 ![] bcast_S_S16384 (constantI S_ 32 0#32)))
      (addi I (broadcastInDim S16384 ![] bcast_S_S16384 (constantI S_ 32 1000000#32))) I)

/-- In range no index is moved: the column holds the indices themselves. -/
theorem starts_apply (I : Ind) (hI : InRange I) (c : Fin 16384) (z : Fin 1) : starts I (ix2 c z) = I (ix1 c) := by
  have hx : ∀ v : Ind, broadcastInDim S16384x1 ![0] bcast_S16384_S16384x1_0 v (ix2 c z) = v (ix1 c) := fun v => by
    simp only [broadcastInDim]
    refine congrArg v (funext fun a => ?_)
    match a with
    | ⟨0, _⟩ => rfl
  refine (hx _).trans ?_
  have hn : ¬ IntOp.cmpi .slt (I (ix1 c)) 0#32 = 1#1 := fun h => by
    have := IntOp.cmpi_slt.1 h
    rw [word_toInt _ (inRange_word I hI c)] at this
    have e0 : (0#32).toInt = 0 := by decide
    omega
  rw [select_apply]
  show Scalar.select (IntOp.cmpi .slt (I (ix1 c)) 0#32) _ _ = _
  rw [eq_zero_of_ne_one hn, select_zero]

/-- The reference's mask: which start indices name a row. -/
abbrev mask (I : Ind) : IVec S16384 1 :=
  Host.reduce IntOp.andi (andi (cmpi .sge (starts I) (broadcastInDim S16384x1 ![] bcast_S_S16384x1 (constantI S_ 32 0#32)))
    (cmpi .sle (starts I) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- In range the mask lets every row through. -/
theorem mask_apply (I : Ind) (hI : InRange I) (j : S16384.Idx) : mask I j = 1#1 := by
  refine Host.reduce_andi_one _ _ _ _ j rfl fun i => ?_
  obtain ⟨c, z, rfl⟩ : ∃ (c : Fin 16384) (z : Fin 1), i = ix2 c z := ⟨i 0, i 1, eq_ix2 i⟩
  show IntOp.andi (IntOp.cmpi .sge (starts I (ix2 c z)) 0#32) (IntOp.cmpi .sle (starts I (ix2 c z)) 999999#32) = 1#1
  have hw := inRange_word I hI c
  rw [starts_apply I hI, IntOp.andi_eq_one, IntOp.cmpi_sge, IntOp.cmpi_sle, word_toInt _ hw]
  have e0 : (0#32).toInt = 0 := by decide
  have e1 : (999999#32).toInt = 999999 := by decide
  omega

/-- The reference's whole term is the gathered table, whatever fills the rows that the mask would leave out. -/
theorem ref_value (I : Ind) (X : Tab F) (N : Out F) (hI : InRange I) :
    select (broadcastInDim S16384x32 ![0] bcast_S16384_S16384x32_0 (mask I))
      (Host.gather gather_S1000000x32_S16384x1_S16384x32_1_0_n_n_0_1_132 X (starts I)) N = gath I X := by
  funext y
  obtain ⟨c, k, rfl⟩ : ∃ (c : Fin 16384) (k : Fin 32), y = ix2 c k := ⟨y 0, y 1, eq_ix2 y⟩
  rw [select_apply]
  have hm : broadcastInDim S16384x32 ![0] bcast_S16384_S16384x32_0 (mask I) (ix2 c k) = 1#1 := mask_apply I hI _
  rw [hm, select_one]
  have hw := inRange_word I hI c
  have hs : src I c.val = (I (ix1 c)).toNat := by unfold src; rw [dif_pos c.isLt]
  refine (Routing.gather_row (nb := 1000000) (B := 32) (n := 16384) gather_S1000000x32_S16384x1_S16384x32_1_0_n_n_0_1_132
    rfl rfl rfl rfl rfl X (starts I) c k ⟨(I (ix1 c)).toNat, hw⟩ ?_ (by omega)).trans ?_
  · rw [starts_apply I hI]; simp
  · unfold gath
    refine congrArg X ?_
    refine congrArg (fun r => ix2 r k) (Fin.ext ?_)
    show (I (ix1 c)).toNat = min (src I c.val) 999999
    rw [hs]; omega

end Cert.Proof.Gather

end
-- ==== Proof.Fire.lean ====
/-
  One trip of the loop that starts the copies: the word of scalar memory at the trip's position is the index, its
  check holds because the index names a row of the table, and the copy it starts takes the table's row and the
  result's row and delivers the result's row gathered.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)
open Idealize.ShloMosaic.Tactic

variable {F : FTy → Type} [FloatOps F]

local notation "𝕄" => MT nD τ sig (HIx 1) (Elt F) ℕ UU ℕ

/-- The scalar sequencer that runs the kernel at grid point `L`. -/
abbrev thr (d : Dev nD) (L : grid0.Coords) : Thread nD τ := SparseCore.S d ((L 0).castLE hcore0)

/-- The kernel's two semaphores. -/
abbrev sIdx : DmaSem sig := cc0_scratch1.sem
/-- The semaphore that every row's copy signals. -/
abbrev sRow : DmaSem sig := cc0_scratch2.sem

/-- One row's credit on the semaphore: 32 words of the result. -/
def NR : ℕ := (oM.slice (Rect.unit (s := S16384x32) ![0, 0] S1x32.size (by decide)) (fun _ => rfl)).view.dmaCredit

/-- That credit is not zero. -/
theorem NR_pos : 0 < NR := View.dmaCredit_pos _ (by decide)

/-- The core that runs grid point `L` is number `L 0`, below 2. -/
theorem core_lt (L : grid0.Coords) : (L 0).val < 2 := (L 0).isLt

/-- The index at position `8192 c + t`, in scalar memory at `t` on core `c`. -/
def words (L : grid0.Coords) (I : Ind) : S8192.Idx → BitVec 32 :=
  fun x => I (ix1 ⟨8192 * (L 0).val + (x 0).val, by have := core_lt L; have h : (x 0).val < 8192 := (x 0).isLt; omega⟩)

/-- The word the trip reads is the index at its position. -/
theorem word_src (L : grid0.Coords) (I : Ind) (t : Fin k0_t1_loop.trips) (x : S1.Idx) :
    (((sM.access (Rect.unit (s := S8192) (k0_off2 t) S1.size (k0_off2_inb t))).read (Elt F) (words L I) x : BitVec 32)).toNat
      = src I (8192 * (L 0).val + t.val) := by
  have ht : t.val < 8192 := lt_of_lt_of_eq t.isLt t1_trips
  have hc := core_lt L
  have hr : 8192 * (L 0).val + t.val < 16384 := by omega
  unfold src
  rw [dif_pos hr]
  show (words L I ((Rect.unit (s := S8192) (k0_off2 t) S1.size (k0_off2_inb t)).emb x)).toNat = _
  unfold words
  congr 3
  apply Fin.ext
  show 8192 * (L 0).val + (((Rect.unit (s := S8192) (k0_off2 t) S1.size (k0_off2_inb t)).emb x) 0).val = _
  rw [Rect.emb_apply]
  have h0 : (x 0).val < 1 := (x 0).isLt
  have e : k0_off2 t 0 = t.val := by rw [k0_off2_eq]; rfl
  show 8192 * (L 0).val + (k0_off2 t 0 + 1 * (x 0).val) = 8192 * (L 0).val + t.val
  omega

/-- The index names a row of the table: the check the program makes of it holds. -/
theorem chk_ok {w : BitVec 32} {r : ℕ} (hw : w.toNat = r) (hr : r < 1000000) : k0_chk1 w := by
  intro a; fin_cases a
  · show w.toNat + 1 ≤ 1000000; omega
  · show 0 + 32 ≤ 32; omega

section Step

variable (d : Dev nD) (L : grid0.Coords) (I : Ind) (X : Tab F) (f : Out F) (q : PosShare TreeShare)

/-- The copies on the rows' semaphore: `j` started, `u` units waited for. -/
abbrev batch (j u : ℕ) : sProp 𝕄 :=
  Transfers.Batch (countersEmb (U := UU)) (thr d L) (.dma sRow) none NR (deliv d I X q (L 0).val) j u

/-- The trip's row of the result, as the copy names it. -/
abbrev dstM (t : Fin k0_t1_loop.trips) : Memref sig .scScalar .hbm S1x32 .f32 :=
  oM.slice (Rect.unit (s := S16384x32) (k0_off3 L t) S1x32.size (k0_off3_inb L t)) (fun _ => rfl)
/-- The table's row the word `w` names, as the copy names it. -/
abbrev srcM (w : BitVec 32) (hchk : k0_chk1 w) : Memref sig .scScalar .hbm S1x32 .f32 :=
  tM.slice (Rect.unit (s := S1000000x32) (k0_off4 w) S1x32.size (k0_off4_inb w hchk)) (fun _ => rfl)

/-- Every trip's copy signals one row's credit. -/
theorem rowCredit (t : Fin k0_t1_loop.trips) : (dstM L t).view.amount (.dma sRow) = NR := rfl

/-- Trip `t` of core `c` writes row `8192 c + t` of the result. -/
theorem row_set (t : Fin k0_t1_loop.trips) : (dstM L t).view.set = oRow (8192 * (L 0).val + t.val) :=
  (View.set_slice_whole _ _).trans (oRow_eq (k0_off3_eq L t) _)

/-- A copy whose index word is `r` reads row `r` of the table. -/
theorem src_set {w : BitVec 32} {r : ℕ} (hw : w.toNat = r) (hchk : k0_chk1 w) : (srcM w hchk).view.set = tRow r :=
  (View.set_slice_whole _ _).trans (tRow_eq (by rw [← hw]; rfl) _)

/-- The copy of the table's row over the result's leaves the gathered row there. -/
theorem row_write (t : Fin k0_t1_loop.trips) (w : BitVec 32) (hw : w.toNat = src I (8192 * (L 0).val + t.val))
    (hr : src I (8192 * (L 0).val + t.val) < 1000000) (hchk : k0_chk1 w) :
    ∀ x ∈ oRow (8192 * (L 0).val + t.val), (dstM L t).view.write (Elt F) f
      ((srcM w hchk).view.read (Elt F) X) Finset.univ x = gath I X x := by
  intro x hx
  rw [← row_set L t] at hx
  obtain ⟨y, -, rfl⟩ := Finset.mem_map.mp hx
  rw [View.write_emb_of_mem _ _ (Finset.mem_univ y), View.read_apply, cast_cast]
  refine (cast_eq _ _).trans ?_
  have hp := core_lt L
  have ht : t.val < 8192 := lt_of_lt_of_eq t.isLt t1_trips
  have hx0 : ((dstM L t).view.emb y 0).val = 8192 * (L 0).val + t.val := by
    rw [← mem_oRow, ← row_set L t]; exact hx
  unfold gath
  congr 1
  funext a; apply Fin.ext; fin_cases a
  · show w.toNat + 1 * (y 0).val = min (src I ((dstM L t).view.emb y 0).val) 999999
    have hy : (y 0).val < 1 := (y 0).isLt
    rw [hx0]; omega
  · show 0 + 1 * (y 1).val = k0_off3 L t 1 + 1 * (y 1).val
    rw [k0_off3_eq]; rfl

/-- What a finished copy leaves, the result's row written and the table's row lent back, is the row's delivery. -/
theorem row_deliv (t : Fin k0_t1_loop.trips) (w : BitVec 32) (hw : w.toNat = src I (8192 * (L 0).val + t.val))
    (hr : src I (8192 * (L 0).val + t.val) < 1000000) (hchk : k0_chk1 w) (ht : t.val < 8192) :
    (iprop(((dstM L t).view.loc (thr d L) ↦[oRow (8192 * (L 0).val + t.val)]{fullShare}
          ((dstM L t).view.write (Elt F) f ((ReadAs.same).apply ((srcM w hchk).view.read (Elt F) X)) Finset.univ))
        ∗ ((srcM w hchk).view.loc (thr d L) ↦[(srcM w hchk).view.set]{Transfers.shareTokN q t.val} X)) : sProp 𝕄)
      ⊢ deliv d I X q (L 0).val ⟨t.val, ht⟩ := by
  unfold deliv
  show iprop((oLoc d ↦[oRow (8192 * (L 0).val + t.val)]{fullShare}
          ((dstM L t).view.write (Elt F) f ((ReadAs.same).apply ((srcM w hchk).view.read (Elt F) X)) Finset.univ))
        ∗ (tLoc d ↦[(srcM w hchk).view.set]{Transfers.shareTokN q t.val} X)) ⊢ _
  refine BI.sep_mono (Entails.of_eq (pointsTo_congr (row_write L I X f t w hw hr hchk))) ?_
  rw [src_set hw hchk]
  exact BI.Entails.refl _

/-- Before trip `k`: `k` copies started; the result's rows and the table's from `k` on in hand; scalar memory holds the
    core's indices. -/
def fireInv (k : ℕ) (_ : Unit) : sProp 𝕄 :=
  iprop(batch d L I X q k 0 ∗ (sM.view.loc (thr d L) ↦{fullShare} words L I)
    ∗ bigSep (Ring.rangeSet 8192 k 8192) (item d I X f q (L 0).val))

/-- One trip of the issuing loop: the next index names a row of the table, and its copy joins the batch. -/
theorem fire_trip [∀ e, Nonempty (Elt F e)] (hI : InRange I) (t : Fin k0_t1_loop.trips) (acc : Unit) :
    fireInv d L I X f q t.val acc ⊢ wp frame (wpE (defs₀ (F := F)) 𝒱₀ (thr d L) none) Set.univ
      (k0_t1_body L tM (Memref.isWhole_whole _) iM (Memref.isWhole_whole _) oM (Memref.isWhole_whole _) sM (Memref.isWhole_whole _) cc0_scratch1 cc0_scratch2 t acc) (fireInv d L I X f q (t.val + 1)) := by
  have ht : t.val < 8192 := lt_of_lt_of_eq t.isLt t1_trips
  unfold fireInv
  rw [Ring.bigSep_rangeSet_head (by omega) (by omega)]
  iintro ⟨HB, HS, ⟨HI, HIs⟩⟩
  unfold k0_t1_body
  simp only [smemLoad, smemLoadElt, Prog.lift, Prog.bind_op, Prog.bind_ret]
  iapply (wp_load_rect (Val := Elt F) (defs := defs₀ (F := F)) 𝒱₀ (thr d L) none Set.univ (m := sM) (r := Rect.unit (s := S8192) (k0_off2 t) S1.size (k0_off2_inb t))
    (S := Finset.univ) (q := fullShare) (f := words L I) (Finset.subset_univ _)) $$ HS
  iintro HS
  have hw := word_src (F := F) L I t (Shape.Idx.first (numel1_S1.symm ▸ Nat.one_pos))
  revert hw
  generalize ((sM.access (Rect.unit (s := S8192) (k0_off2 t) S1.size (k0_off2_inb t))).read (Elt F) (words L I))
    (Shape.Idx.first (numel1_S1.symm ▸ Nat.one_pos)) = w
  intro hw
  have hchk : k0_chk1 w := chk_ok hw (hI _)
  iapply (wp_assume (defs := defs₀ (F := F)) 𝒱₀ (thr d L) none Set.univ hchk)
  ihave HI' := (show item d I X f q (L 0).val ⟨t.val, ht⟩
    ⊢ iprop(oPart d f (8192 * (L 0).val + t.val) ∗ tPart d I X q t.val (8192 * (L 0).val + t.val)) from BI.Entails.refl _) $$ HI
  icases HI' with ⟨Ho, Ht⟩
  have hD := row_deliv d L I X f q t w hw (hI _) hchk ht
  iapply (Transfers.wp_dmaBatch (countersEmb (U := UU)) 𝒱₀ (thr d L) none (src := srcM w hchk) (dst := dstM L t) (via := .same)
    (q := Transfers.shareTokN q t.val) (fs := X) (fd := f) (Sd := oRow (8192 * (L 0).val + t.val)) none NR (D := deliv d I X q (L 0).val) (j := t.val) (u := 0)
    (rowCredit L t) (row_set L t).le ht (Nat.zero_le _) (BI.Entails.trans (BI.sep_mono
      (P' := (oLoc d ↦[oRow (8192 * (L 0).val + t.val)]{fullShare}
          ((dstM L t).view.write (Elt F) f ((ReadAs.same).apply ((srcM w hchk).view.read (Elt F) X)) Finset.univ) : sProp 𝕄))
      (Q' := (tLoc d ↦[(srcM w hchk).view.set]{Transfers.shareTokN q t.val} X : sProp 𝕄)) (fun _ h => h) (fun _ h => h)) hD)) $$ [Ho Ht HB]
  · isplitl [Ht]
    · rw [src_set hw hchk]; iexact Ht
    isplitl [Ho]; · iexact Ho
    iexact HB
  iintro HB
  sl_step
  isplitl [HB]; · iexact HB
  isplitl [HS]; · iexact HS
  iexact HIs

end Step

end Cert.Proof.Gather

end
-- ==== Proof.Drain.lean ====
/-
  One trip of the loop that waits: one row's credit off the rows' semaphore, whichever copy it came from. After as many
  waits as copies every copy has landed, and the semaphore is back at zero.
-/
module

public import proofs.«01_k».proof.Proof.Fire

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)
open Idealize.ShloMosaic.Tactic

variable {F : FTy → Type} [FloatOps F]

local notation "𝕄" => MT nD τ sig (HIx 1) (Elt F) ℕ UU ℕ

section Drain

variable (d : Dev nD) (L : grid0.Coords) (I : Ind) (X : Tab F) (q : PosShare TreeShare)
variable (O : CellTallies nD τ sig (HIx 1)) (W : Waits sig (HIx 1))

/-- What the thread owes, with only waits at the kernels' own index recorded beyond `W`. -/
abbrev owing : sProp 𝕄 := iprop(∃ W', ⌜∀ p ∈ W', p ∈ W ∨ p.2 = none⌝ ∗ owes (thr d L) O W')

/-- Before trip `k`: every copy started, `k` rows' credit waited for. -/
def drainInv (k : ℕ) (_ : Unit) : sProp 𝕄 :=
  iprop(levAts (K (F := F)).L (K (F := F)).lev ∗ batch d L I X q 8192 (k * NR) ∗ owing d L O W)

/-- One trip of the draining loop: one more row's credit is waited for. -/
theorem drain_trip [∀ e, Nonempty (Elt F e)] (hO : ∀ g, O g none = 0) (t : Fin k0_t2_loop.trips) (acc : Unit) :
    drainInv d L I X q O W t.val acc ⊢ wp frame (wpE (defs₀ (F := F)) 𝒱₀ (thr d L) none) Set.univ
      (k0_t2_body L tM (Memref.isWhole_whole _) iM (Memref.isWhole_whole _) oM (Memref.isWhole_whole _) sM (Memref.isWhole_whole _)
        cc0_scratch1 cc0_scratch2 t acc) (drainInv d L I X q O W (t.val + 1)) := by
  have ht : t.val < 8192 := lt_of_lt_of_eq t.isLt t2_trips
  have hu : t.val * NR + 1 * NR ≤ NR * 8192 := by
    rw [← Nat.add_mul, Nat.mul_comm NR]; exact Nat.mul_le_mul_right _ (by omega)
  unfold drainInv owing
  iintro ⟨#Hlv, HB, %W', %hW', HO⟩
  ihave Hmw := ((K (F := F)).mayWait_none (thr := thr d L) (.dma sRow) hO) $$ Hlv
  unfold k0_t2_body
  simp only [Prog.lift, Prog.bind_op, Prog.bind_ret]
  iapply (Transfers.wp_waitBatchMulO (defs := defs₀ (F := F)) (countersEmb (U := UU)) 𝒱₀ (thr d L) none
    (srcw := tM.slice (Rect.unit (s := S1000000x32) ![0, 0] S1x32.size inb_S1000000x32_S1x32_0_0) (fun _ => rfl))
    (dstw := oM.slice (Rect.unit (s := S16384x32) (k0_off5 L) S1x32.size (k0_off5_inb L)) (fun _ => rfl))
    (hsrc := View.wordExact_bits rfl) (hdst := View.wordExact_bits rfl) none (sem := sRow) (N := NR) 1
    (D := deliv d I X q (L 0).val) (j := 8192) (u := t.val * NR) (O := O) (W := W') (Nat.one_mul NR).symm hu) $$ [HB HO Hmw]
  · isplitl [HB]; · iexact HB
    isplitl [HO] <;> iassumption
  iintro ⟨HB, HO⟩
  rw [show t.val * NR + 1 * NR = (t.val + 1) * NR from (Nat.add_mul _ _ _).symm]
  sl_step
  isplitr; · iexact Hlv
  isplitl [HB]; · iexact HB
  iexists (insert (SemLoc.dma sRow, none) W'); isplitr
  · ipureintro; intro p hp
    rcases Finset.mem_insert.mp hp with hp | hp
    · subst hp; exact .inr rfl
    · exact hW' p hp
  · iexact HO

end Drain

end Cert.Proof.Gather

end
-- ==== Proof.Split.lean ====
/-
  Taking a core's arrays apart for its copies and putting them back: the table's share into one read share per copy,
  each cut into the row its copy reads and the rest; the result's rows beside them.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)
open Idealize.ShloMosaic.Tactic

variable {F : FTy → Type}

local notation "𝕄" => MT nD τ sig (HIx 1) (Elt F) ℕ UU ℕ

section Split

variable (d : Dev nD) (I : Ind) (X : Tab F) (f : Out F) (q : PosShare TreeShare) (c : ℕ)

/-- The table at the `t`-th read share of `q`, but for the row index `r` names. -/
abbrev tRest (t r : ℕ) : sProp 𝕄 := tLoc d ↦[Finset.univ \ tRow (src I r)]{Transfers.shareTokN q t} X

/-- What stays of the table's share `q` while core `c`'s copies run. -/
def kept : sProp 𝕄 :=
  iprop((tLoc d ↦{Transfers.shareDrop q 8192} X) ∗ bigSep Finset.univ fun t : Fin 8192 => tRest d I X q t.val (8192 * c + t.val))

/-- The table's share is what stays and a row per copy; -/
theorem table_split : (tLoc d ↦{q} X : sProp 𝕄)
    = iprop(kept d I X q c ∗ bigSep Finset.univ fun t : Fin 8192 => tPart d I X q t.val (8192 * c + t.val)) := by
  have h1 : (tLoc d ↦{q} X : sProp 𝕄) = iprop((tLoc d ↦{Transfers.shareDrop q 8192} X)
      ∗ bigSep (Finset.range 8192) (fun t => tLoc d ↦{Transfers.shareTokN q t} X)) :=
    BI.Entails.antisymm (Transfers.pointsTo_toks_range q 8192).1 (Transfers.pointsTo_toks_range q 8192).2
  have h2 : (bigSep (Finset.range 8192) (fun t => tLoc d ↦{Transfers.shareTokN q t} X) : sProp 𝕄)
      = bigSep Finset.univ fun t : Fin 8192 => tLoc d ↦{Transfers.shareTokN q t.val} X := by
    have := Ring.bigSep_rangeSet_eq_range (NB := 8192) (lo := 0) (hi := 8192) (Φ := fun t : Fin 8192 => (tLoc d ↦{Transfers.shareTokN q t.val} X : sProp 𝕄))
      le_rfl (fun t => (tLoc d ↦{Transfers.shareTokN q t} X : sProp 𝕄)) (fun k _ => by
        show (tLoc d ↦{Transfers.shareTokN q k} X : sProp 𝕄) = (tLoc d ↦{Transfers.shareTokN q (0 + k)} X : sProp 𝕄); rw [Nat.zero_add])
    rw [Ring.rangeSet_univ] at this
    exact this.symm
  have h3 : ∀ t : Fin 8192, (tLoc d ↦{Transfers.shareTokN q t.val} X : sProp 𝕄)
      = iprop(tRest d I X q t.val (8192 * c + t.val) ∗ tPart d I X q t.val (8192 * c + t.val)) := fun t => by
    have h := pointsTo_split_subset (Val := Elt F) (Ix := HIx 1) (Name := ℕ) (U := UU) (Lvl := ℕ) (ℓ := tLoc d) (q := Transfers.shareTokN q t.val) (f := X)
      (Finset.subset_univ (tRow (src I (8192 * c + t.val))))
    refine BI.Entails.antisymm (h.1.trans ?_) (BIBase.Entails.trans ?_ h.2)
    · iintro ⟨HA, HB⟩; isplitl [HB] <;> iassumption
    · iintro ⟨HA, HB⟩; isplitl [HB] <;> iassumption
  rw [h1, h2, BI.bigSep_congr fun t _ => h3 t, show (bigSep Finset.univ fun t : Fin 8192 =>
      iprop(tRest d I X q t.val (8192 * c + t.val) ∗ tPart d I X q t.val (8192 * c + t.val)) : sProp 𝕄)
    = iprop((bigSep Finset.univ fun t : Fin 8192 => tRest d I X q t.val (8192 * c + t.val))
      ∗ bigSep Finset.univ fun t : Fin 8192 => tPart d I X q t.val (8192 * c + t.val)) from BI.bigSep_sep _ _ _]
  unfold kept
  have ha : ∀ A B C : sProp 𝕄, iprop(A ∗ B ∗ C) = iprop((A ∗ B) ∗ C) := fun A B C =>
    BI.Entails.antisymm (show iprop(A ∗ B ∗ C) ⊢ iprop((A ∗ B) ∗ C) from sep_assoc.2) (show iprop((A ∗ B) ∗ C) ⊢ iprop(A ∗ B ∗ C) from sep_assoc.1)
  exact ha _ _ _

/-- What core `c` is handed: a read share of the table and of the indices, and its rows of the result at contents `f`; -/
def handed : sProp 𝕄 :=
  iprop((tLoc d ↦{Transfers.shareTokN fullShare c} X) ∗ (iLoc d ↦{Transfers.shareTokN fullShare c} I)
    ∗ bigSep Finset.univ fun t : Fin 8192 => oPart d f (8192 * c + t.val))

instance handed_storable : BI.Storable (upEmb : UEmb _ 𝕄) (handed d I X f c) := by
  unfold handed; infer_instance

/-- the table and the result's rows of it are what stays and an item per copy; -/
theorem items_split :
    iprop((tLoc d ↦{q} X) ∗ bigSep Finset.univ fun t : Fin 8192 => oPart d f (8192 * c + t.val))
      ⊢ (iprop(kept d I X q c ∗ bigSep Finset.univ (item d I X f q c)) : sProp 𝕄) := by
  rw [table_split d I X q c, show (bigSep Finset.univ (item d I X f q c) : sProp 𝕄)
      = iprop((bigSep Finset.univ fun t : Fin 8192 => oPart d f (8192 * c + t.val))
        ∗ bigSep Finset.univ fun t : Fin 8192 => tPart d I X q t.val (8192 * c + t.val)) from BI.bigSep_sep _ _ _]
  iintro ⟨⟨HK, HT⟩, HO⟩
  isplitl [HK]; · iexact HK
  isplitl [HO] <;> iassumption

/-- and what the copies deliver is the result's rows gathered and the table whole again. -/
theorem deliv_join :
    iprop(kept d I X q c ∗ bigSep Finset.univ (deliv d I X q c))
      ⊢ (iprop((tLoc d ↦{q} X) ∗ bigSep Finset.univ fun t : Fin 8192 => oPart d (gath I X) (8192 * c + t.val)) : sProp 𝕄) := by
  rw [table_split d I X q c, show (bigSep Finset.univ (deliv d I X q c) : sProp 𝕄)
      = iprop((bigSep Finset.univ fun t : Fin 8192 => oPart d (gath I X) (8192 * c + t.val))
        ∗ bigSep Finset.univ fun t : Fin 8192 => tPart d I X q t.val (8192 * c + t.val)) from BI.bigSep_sep _ _ _]
  iintro ⟨HK, HO, HT⟩
  isplitl [HK HT]
  · isplitl [HK] <;> iassumption
  · iexact HO

end Split

end Cert.Proof.Gather

end
-- ==== Proof.Body.lean ====
/-
  The kernel on one scalar sequencer: the copy of the core's indices into scalar memory and its wait, the loop that
  starts the rows' copies, the loop that waits for them, and the arrays put back together with the core's rows of the
  result gathered.
-/
module

public import proofs.«01_k».proof.Proof.Drain
public import proofs.«01_k».proof.Proof.Split

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)
open Idealize.ShloMosaic.Tactic

variable {F : FTy → Type} [FloatOps F]

local notation "𝕄" => MT nD τ sig (HIx 1) (Elt F) ℕ UU ℕ

section Body

variable (d : Dev nD) (L : grid0.Coords) (I : Ind) (X : Tab F) (f : Out F)
variable (O : CellTallies nD τ sig (HIx 1)) (W : Waits sig (HIx 1))

/-- The core that runs grid point `L`. -/
abbrev cr : Fin τ.nSC := (L 0).castLE hcore0

/-! ## The core's own storage -/

/-- The semaphore cell of the copy of the indices. -/
abbrev cellI : GSem nD τ sig := (thr d L, .dma sIdx)
/-- The semaphore cell of the copies of the rows. -/
abbrev cellR : GSem nD τ sig := (thr d L, .dma sRow)

omit [FloatOps F] in
/-- The core's semaphores are the kernel's two and the others. -/
theorem ownSems0_thr :
    (ownSems0 (thr d L) : sProp 𝕄) = iprop(semVal (cellI d L) 0 ∗ semVal (cellR d L) 0
      ∗ bigSep (((ownCells (thr d L)).erase (cellI d L)).erase (cellR d L)) fun g => semVal g 0) := by
  unfold SparseCore.Cfg.ownSems0
  rw [SparseCore.bigSep_erase' ((mem_ownCells (g := cellI d L)).mpr ⟨rfl, by
      show (SemLoc.dma sIdx : SemLoc sig).isScoped .scScalar = true; decide⟩),
    SparseCore.bigSep_erase' (Finset.mem_erase.mpr ⟨fun h => absurd (congrArg Prod.snd h) (by
      show (SemLoc.dma sRow : SemLoc sig) ≠ SemLoc.dma sIdx; decide), (mem_ownCells (g := cellR d L)).mpr ⟨rfl, by
      show (SemLoc.dma sRow : SemLoc sig).isScoped .scScalar = true; decide⟩⟩)]

/-- Scalar memory's index scratch, as a buffer of the device. -/
abbrev sRef : DevRef τ sig := (Proc.scScalar (cr L)).devRef (cc0_scratch0 : Ref sig .scScalar)

omit [FloatOps F] in
/-- The core's buffers are the index scratch and the others. -/
theorem ownBufs_thr :
    (ownBufs (thr d L) : sProp 𝕄) = iprop((∃ g : Buf (Elt F) (sM.view.loc (thr d L)), sM.view.loc (thr d L) ↦{fullShare} g)
      ∗ bigSep ((ownRefs (thr d L).2).erase (sRef L)) fun b => iprop(∃ g, (((thr d L).1, b) : Loc nD τ sig) ↦{fullShare} g)) := by
  unfold SparseCore.Cfg.ownBufs
  exact SparseCore.bigSep_erase' ((mem_ownRefs (b := sRef L)).mpr rfl)

/-! ## The copy of the indices -/

/-- The core's half of the indices, as the copy names it. -/
abbrev srcI : Memref sig .scScalar .hbm S8192 .i32 :=
  iM.slice (Rect.unit (s := S16384) (k0_off1 L) S8192.size (k0_off1_inb L)) (fun _ => rfl)

/-- One copy of the indices' credit. -/
def NI : ℕ := sM.view.dmaCredit

/-- That credit is not zero. -/
theorem NI_pos : 0 < NI := View.dmaCredit_pos _ (by decide)

omit [FloatOps F] in
/-- The copy leaves the core's indices in scalar memory. -/
theorem words_write (g : Buf (Elt F) (sM.view.loc (thr d L))) :
    sM.view.write (Elt F) g ((srcI L).view.read (Elt F) I) Finset.univ = words L I := by
  rw [View.write_whole_univ]
  funext x
  show I ((Rect.unit (s := S16384) (k0_off1 L) S8192.size (k0_off1_inb L)).emb x) = _
  unfold words
  congr 1
  funext a
  have ha : a = 0 := Subsingleton.elim _ _
  subst ha
  apply Fin.ext
  rw [Rect.emb_apply]
  have e : k0_off1 L 0 = 8192 * (L 0).val := by rw [k0_off1_eq]; rfl
  show k0_off1 L 0 + 1 * (x 0).val = 8192 * (L 0).val + (x 0).val
  omega

/-! ## The kernel's run -/

/-- The kernel's run on one core: from the core's rows of the result at any contents `f`, its shares of the indices and the table,
    its scalar memory and its two cells at zero, to its rows gathered and all the rest as it was, nothing left owing. -/
theorem kernel_run [∀ e, Nonempty (Elt F e)] (hI : InRange I) (hO : ∀ g, O g none = 0) (g : Buf (Elt F) (sM.view.loc (thr d L))) :
    iprop(levAts (K (F := F)).L (K (F := F)).lev ∗ handed d I X f (L 0).val ∗ (sM.view.loc (thr d L) ↦{fullShare} g)
        ∗ semVal (cellI d L) 0 ∗ semVal (cellR d L) 0 ∗ owes (thr d L) O W)
      ⊢ wp frame (wpE (defs₀ (F := F)) 𝒱₀ (thr d L) none) Set.univ
          (cc0_gather_kernel L tM (Memref.isWhole_whole _) iM (Memref.isWhole_whole _) oM (Memref.isWhole_whole _) sM (Memref.isWhole_whole _)
            cc0_scratch1 cc0_scratch2)
          fun _ => iprop(handed d I X (gath I X) (L 0).val ∗ (∃ g : Buf (Elt F) (sM.view.loc (thr d L)), sM.view.loc (thr d L) ↦{fullShare} g)
            ∗ semVal (cellI d L) 0 ∗ semVal (cellR d L) 0 ∗ owing d L O W) := by
  simp only [cc0_gather_kernel_eq_skeleton]
  sl_unfold [cc0_gather_kernel_skel]
  simp only [Prog.lift, Prog.bind_op, Prog.bind_ret]
  unfold handed owing
  iintro ⟨#Hlv, ⟨HT, HI, HR⟩, HS, Hi, Hr, HO⟩
  ihave HI' := (pointsTo_split_subset (Val := Elt F) (Ix := HIx 1) (Name := ℕ) (U := UU) (Lvl := ℕ) (ℓ := iLoc d)
    (Finset.subset_univ (srcI L).view.set)).1 $$ HI
  icases HI' with ⟨HI, HIrest⟩
  ihave Hmw := ((K (F := F)).mayWait_none (thr := thr d L) (.dma sIdx) hO) $$ Hlv
  -- the indices into scalar memory
  iapply (Transfers.wp_dmaLocal (defs := defs₀ (F := F)) (countersEmb (U := UU)) 𝒱₀ (thr d L) none (src := srcI L) (via := .same) (dst := sM)
    (q := Transfers.shareTokN fullShare (L 0).val) (fs := I) (Sd := Finset.univ) (fd := g) none NI rfl NI_pos (Finset.subset_univ _)) $$ [HI HS Hi]
  · isplitl [HI]; · iexact HI
    isplitl [HS] <;> iassumption
  iintro HF
  iapply (Transfers.wp_waitLocalO (defs := defs₀ (F := F)) (countersEmb (U := UU)) 𝒱₀ (thr d L) none (sem := sIdx) (srcw := srcI L) (dstw := sM)
    none (N := NI) rfl (O := O) (W := W)) $$ [HF HO Hmw]
  · isplitl [HF]; · iexact HF
    isplitl [HO] <;> iassumption
  iintro ⟨⟨HS, HI⟩, Hi, HO⟩
  ihave HS := (show (sM.view.loc (thr d L) ↦{fullShare} (sM.view.write (Elt F) g (ReadAs.same.apply ((srcI L).view.read (Elt F) I)) Finset.univ) : sProp 𝕄)
    ⊢ sM.view.loc (thr d L) ↦{fullShare} words L I from Entails.of_eq (congrArg _ (words_write (F := F) d L I g))) $$ HS
  ihave HI := (pointsTo_split_subset (Val := Elt F) (Ix := HIx 1) (Name := ℕ) (U := UU) (Lvl := ℕ) (ℓ := iLoc d) (q := Transfers.shareTokN fullShare (L 0).val) (f := I)
    (Finset.subset_univ (srcI L).view.set)).2 $$ [HI HIrest]
  · isplitl [HI] <;> iassumption
  -- the rows' copies, taken apart
  ihave HA := (items_split d I X f (Transfers.shareTokN fullShare (L 0).val) (L 0).val) $$ [HT HR]
  · isplitl [HT] <;> iassumption
  icases HA with ⟨HK, HIs⟩
  imod (Transfers.batch_alloc' (Lvl := ℕ) (countersEmb (U := UU)) (thr d L) none NR
    (deliv d I X (Transfers.shareTokN fullShare (L 0).val) (L 0).val) (sm := .dma sRow) (E := Set.univ)) $$ Hr with HB
  -- the loop that starts them
  sl_for (fireInv d L I X f (Transfers.shareTokN fullShare (L 0).val)) $$ [HB HS HIs]
  case region => intro k acc; exact fire_trip d L I X f _ hI k acc
  · unfold fireInv
    isplitl [HB]; · iexact HB
    isplitl [HS]; · iexact HS
    rw [Ring.rangeSet_univ]; iexact HIs
  iintro %_ HL
  rw [show Scf.trips k0_t1_loop.lb k0_t1_loop.ub k0_t1_loop.st = 8192 from t1_trips]
  unfold fireInv
  icases HL with ⟨HB, HS, -⟩
  -- the loop that waits for them
  sl_for (drainInv d L I X (Transfers.shareTokN fullShare (L 0).val) O W) $$ [HB HO]
  case region => intro k acc; exact drain_trip d L I X _ O W hO k acc
  · unfold drainInv owing
    isplitr; · iexact Hlv
    isplitl [HB]; · rw [Nat.zero_mul]; iexact HB
    iexists (insert (SemLoc.dma sIdx, none) W); isplitr
    · ipureintro; intro p hp
      rcases Finset.mem_insert.mp hp with hp | hp
      · subst hp; exact .inr rfl
      · exact .inl hp
    · iexact HO
  iintro %_ HL
  rw [show Scf.trips k0_t2_loop.lb k0_t2_loop.ub k0_t2_loop.st = 8192 from t2_trips]
  unfold drainInv owing
  icases HL with ⟨-, HB, HO⟩
  rw [Nat.mul_comm 8192 NR]
  imod (Transfers.batch_collect' (countersEmb (U := UU)) (thr d L) NR_pos) $$ HB with ⟨HD, Hr⟩
  ihave HA := (deliv_join d I X (Transfers.shareTokN fullShare (L 0).val) (L 0).val) $$ [HK HD]
  · isplitl [HK] <;> iassumption
  icases HA with ⟨HT, HR⟩
  sl_step
  isplitl [HT HI HR]
  · isplitl [HT]; · iexact HT
    isplitl [HI] <;> iassumption
  isplitl [HS]; · iexists _; iexact HS
  isplitl [Hi]; · iexact Hi
  isplitl [Hr] <;> iassumption

/-- The kernel on a scalar sequencer, from what the core is handed and its own storage, to what it hands back. -/
theorem body [∀ e, Nonempty (Elt F e)] (hI : InRange I) (hO : ∀ g, O g none = 0) :
    iprop(levAts (K (F := F)).L (K (F := F)).lev ∗ emp ∗ handed d I X f (L 0).val
        ∗ scopedBufs (thr d L) ∗ scopedSems0 (thr d L) ∗ owes (thr d L) O W)
      ⊢ wp frame (wpE (defs₀ (F := F)) 𝒱₀ (thr d L) none) Set.univ
          (cc0_gather_kernel L tM (Memref.isWhole_whole _) iM (Memref.isWhole_whole _) oM (Memref.isWhole_whole _) sM (Memref.isWhole_whole _)
            cc0_scratch1 cc0_scratch2)
          fun _ => iprop(handed d I X (gath I X) (L 0).val ∗ scopedBufs (thr d L) ∗ scopedSems0 (thr d L) ∗ owing d L O W) := by
  iintro ⟨#Hlv, -, HH, Hsb, Hss, HO⟩
  ihave Hss' := (SparseCore.Cfg.scopedSems0_S_elim (Val := Elt F) d (cr L)) $$ Hss
  icases Hss' with ⟨Hown, Hsubs⟩
  ihave Hown' := (Entails.of_eq (ownSems0_thr (F := F) d L)) $$ Hown
  icases Hown' with ⟨Hi, Hr, Hrest⟩
  ihave Hsb' := ((K (F := F)).scopedBufs_S_elim facts d (cr L)) $$ Hsb
  icases Hsb' with ⟨Hbuf, Hbufs⟩
  ihave Hbuf' := (Entails.of_eq (ownBufs_thr (F := F) d L)) $$ Hbuf
  icases Hbuf' with ⟨⟨%g, HS⟩, Hbrest⟩
  iapply (wp_wand_r frame)
  isplitl [HH HS Hi Hr HO]
  · iapply (kernel_run d L I X f O W hI hO g)
    isplitr; · iexact Hlv
    isplitl [HH]; · iexact HH
    isplitl [HS]; · iexact HS
    isplitl [Hi]; · iexact Hi
    isplitl [Hr] <;> iassumption
  iintro %_ ⟨HH, HS, Hi, Hr, HO⟩
  isplitl [HH]; · iexact HH
  isplitl [HS Hbrest Hbufs]
  · iapply ((K (F := F)).scopedBufs_S_intro facts d (cr L))
    isplitl [HS Hbrest]
    · rw [ownBufs_thr]; isplitl [HS] <;> iassumption
    · iexact Hbufs
  isplitl [Hi Hr Hrest Hsubs]
  · iapply (SparseCore.Cfg.scopedSems0_S_intro (Val := Elt F) d (cr L))
    isplitl [Hi Hr Hrest]
    · rw [ownSems0_thr]
      isplitl [Hi]; · iexact Hi
      isplitl [Hr] <;> iassumption
    · iexact Hsubs
  iexact HO

end Body

end Cert.Proof.Gather

end
-- ==== Proof.Launch.lean ====
/-
  The launch: what the TensorCore hands each scalar sequencer and takes back, and the whole program's run — the result
  gathered, the table and the indices as they were, every semaphore at zero — from any memory whose indices all name
  rows of the table.
-/
module

public import proofs.«01_k».proof.Proof.Body

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)
open Idealize.ShloMosaic.Rounds
open Idealize.ShloMosaic.Tactic

variable {F : FTy → Type}

local notation "𝕄" => MT nD τ sig (HIx 1) (Elt F) ℕ UU ℕ

/-! ## The result's rows, by core -/

/-- Core `c`'s half of the result. -/
def oHalf (c : Fin 2) : Finset S16384x32.Idx := Finset.univ.filter fun x => (x 0).val / 8192 = c.val

/-- Two cores' halves share no element. -/
theorem oHalf_disjoint : ∀ c c' : Fin 2, c ≠ c' → Disjoint (oHalf c) (oHalf c') := fun c c' hne => by
  rw [Finset.disjoint_left]; intro x hx hx'
  simp only [oHalf, Finset.mem_filter, Finset.mem_univ, true_and] at hx hx'
  exact hne (Fin.ext (by omega))

/-- The two halves make up the result. -/
theorem oHalf_union (d : Dev nD) : (Finset.univ : Finset (Fin 2)).biUnion (fun c => (oHalf c : Finset (Idx (oLoc d)))) = Finset.univ := by
  apply Finset.ext
  intro (x : S16384x32.Idx)
  have h : (x 0).val < 16384 := (x 0).isLt
  have hx : x ∈ oHalf ⟨(x 0).val / 8192, by omega⟩ := by simp [oHalf]
  rw [Finset.mem_biUnion]
  exact ⟨fun _ => Finset.mem_univ _, fun _ => ⟨_, Finset.mem_univ _, hx⟩⟩

/-- Two rows of one core share no element. -/
theorem oRows_disjoint (c : Fin 2) : ∀ t t' : Fin 8192, t ≠ t' → Disjoint (oRow (8192 * c.val + t.val)) (oRow (8192 * c.val + t'.val)) :=
  fun t t' hne => oRow_disjoint fun h => hne (Fin.ext (by omega))

/-- An element lies in a core's half just when it lies in one of the core's rows. -/
theorem oRows_cover (c : Fin 2) (x : S16384x32.Idx) : (∃ t : Fin 8192, x ∈ oRow (8192 * c.val + t.val)) ↔ x ∈ oHalf c := by
  simp only [mem_oRow, oHalf, Finset.mem_filter, Finset.mem_univ, true_and]
  have h : (x 0).val < 16384 := (x 0).isLt
  constructor
  · rintro ⟨t, ht⟩; have := t.isLt; omega
  · intro hc; exact ⟨⟨(x 0).val - 8192 * c.val, by omega⟩, by show (x 0).val = 8192 * c.val + ((x 0).val - 8192 * c.val); omega⟩

/-- A core's rows make up its half. -/
theorem oRows_union (d : Dev nD) (c : Fin 2) :
    (Finset.univ : Finset (Fin 8192)).biUnion (fun t => (oRow (8192 * c.val + t.val) : Finset (Idx (oLoc d)))) = oHalf c := by
  apply Finset.ext
  intro x
  have := oRows_cover c x
  rw [Finset.mem_biUnion]
  constructor
  · rintro ⟨t, -, h⟩; exact this.mp ⟨t, h⟩
  · intro h; obtain ⟨t, h⟩ := this.mpr h; exact ⟨t, Finset.mem_univ _, h⟩

/-- The result whole is its rows, core by core. -/
theorem out_rows (d : Dev nD) (f : Out F) : (oLoc d ↦{fullShare} f : sProp 𝕄)
    = iprop((bigSep Finset.univ fun t : Fin 8192 => oPart d f (8192 * 0 + t.val)) ∗ bigSep Finset.univ fun t : Fin 8192 => oPart d f (8192 * 1 + t.val)) := by
  have hs : ∀ c : Fin 2, (oLoc d ↦[oHalf c]{fullShare} f : sProp 𝕄) = bigSep Finset.univ fun t : Fin 8192 => oPart d f (8192 * c.val + t.val) := by
    intro c
    have a1 := Ring.pointsTo_sub_blocks (Val := Elt F) (Ix := HIx 1) (Name := ℕ) (U := UU) (Lvl := ℕ) (ℓ := oLoc d) (B := Fin 8192)
      (fun t : Fin 8192 => oRow (8192 * c.val + t.val)) (oRows_disjoint c) (oHalf c) (oRows_union d c) (q := fullShare) f
    exact a1
  have h0 : (oLoc d ↦{fullShare} f : sProp 𝕄) = bigSep Finset.univ fun c : Fin 2 => oLoc d ↦[oHalf c]{fullShare} f :=
    Ring.pointsTo_sub_blocks (Val := Elt F) (Ix := HIx 1) (Name := ℕ) (U := UU) (Lvl := ℕ) (ℓ := oLoc d) (q := fullShare)
      oHalf oHalf_disjoint Finset.univ (oHalf_union d) f
  rw [h0, BI.bigSep_congr fun c _ => hs c, show (Finset.univ : Finset (Fin 2)) = {0, 1} by decide, SparseCore.bigSep_insert' (by decide), bigSep_singleton]
  rfl

/-- A whole array is a share kept and one read share for each core. -/
theorem two_shares (ℓ : Loc nD τ sig) (f : Buf (Elt F) ℓ) : (ℓ ↦{fullShare} f : sProp 𝕄)
    = iprop((ℓ ↦{Transfers.shareDrop fullShare 2} f) ∗ (ℓ ↦{Transfers.shareTokN fullShare 0} f) ∗ ℓ ↦{Transfers.shareTokN fullShare 1} f) := by
  have h1 : (ℓ ↦{fullShare} f : sProp 𝕄) = iprop((ℓ ↦{Transfers.shareDrop fullShare 2} f)
      ∗ bigSep (Finset.range 2) (fun t => ℓ ↦{Transfers.shareTokN fullShare t} f)) :=
    BI.Entails.antisymm (Transfers.pointsTo_toks_range fullShare 2).1 (Transfers.pointsTo_toks_range fullShare 2).2
  rw [h1, show Finset.range 2 = {0, 1} by decide, SparseCore.bigSep_insert' (by decide), bigSep_singleton]

/-! ## The launch's payloads -/

variable (m : (ℓ : Loc nD τ sig) → Buf (Elt F) ℓ) (ρ : Dev nD → PrngReg)

/-- The result the run leaves on device `d`. -/
abbrev outOf (d : Dev nD) : Out F := gath (m (iLoc d)) (m (tLoc d))

/-- The call hands each core its shares and its rows as they are, and takes them back gathered. -/
def P : (K (F := F)).Pay (nD := nD) (Val := Elt F) (Name := ℕ) (U := UU) where
  st := fun _ d c => handed d (m (iLoc d)) (m (tLoc d)) (m (oLoc d)) c.val
  dn := fun _ d c => handed d (m (iLoc d)) (m (tLoc d)) (outOf m d) c.val
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- The grid point core `c` runs. -/
def point (c : Fin (grid0.bound 0)) : grid0.Coords := fun | 0 => c | ⟨_ + 1, h⟩ => absurd h (Nat.not_lt.2 (Nat.le_add_left _ _))

variable [FloatOps F]

/-- What a scalar sequencer runs when it is called: the kernel at its own core number. -/
theorem defs₀_scalar (c : Fin τ.nSC) :
    defs₀ (F := F) (.scScalar c) 0 ()
      = SparseCore.onCore hcore0 (fun c => cc0_gather_kernel (point c) tM (Memref.isWhole_whole _) iM (Memref.isWhole_whole _)
          oM (Memref.isWhole_whole _) sM (Memref.isWhole_whole _) cc0_scratch1 cc0_scratch2) ⟨⟩ c := rfl

omit [FloatOps F] in
/-- Waits at no level meet the launch's looser bound, which allows the call's own level beside. -/
theorem waits_loosen (thr : Thread nD τ) (O : CellTallies nD τ sig (HIx 1)) (W : Waits sig (HIx 1)) (q : Fin 1) :
    (iprop(∃ W', ⌜∀ p ∈ W', p ∈ W ∨ p.2 = none⌝ ∗ owes thr O W') : sProp 𝕄)
      ⊢ iprop(∃ W', ⌜∀ p ∈ W', p ∈ W ∨ p.2 = none ∨ p.2 = some q⌝ ∗ owes thr O W') := by
  iintro ⟨%W', %hnone, Howes⟩
  iexists W'
  isplitr [Howes]
  · ipureintro
    intro p hp
    rcases hnone p hp with h | h
    exacts [Or.inl h, Or.inr (Or.inl h)]
  · iexact Howes

/-- Each scalar sequencer runs the kernel from what it is handed to what it hands back. -/
theorem scalarObl [∀ e, Nonempty (Elt F e)] (hI : ∀ d, InRange (m (iLoc d))) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body d (point ⟨((K (F := F)).core 0 c).val, hc⟩) (m (iLoc d)) (m (tLoc d)) (m (oLoc d)) O W (hI d) hO).trans
    (wp_mono frame _ _ fun _ =>
      BI.sep_mono (BI.Entails.refl _) (BI.sep_mono (BI.Entails.refl _) (BI.sep_mono (BI.Entails.refl _) (waits_loosen _ _ _ _))))

/-! ## The launch's own resources: the handshakes' rounds -/

/-- The ghost state that the launch starts from: the handshakes' rounds, and no counters. -/
def u₀ : UU := (initOf (K (F := F)).hsCells (K (F := F)).hsToks, 1)

omit [FloatOps F] in
/-- Any number of empty assertions is one. -/
theorem emps {J : Type} (s : Finset J) : (bigSep s fun _ => iprop(emp)) = (iprop(emp) : sProp 𝕄) := bigSep_emp_const s

omit [FloatOps F] in
/-- The starting ghost state pays for the handshakes; the kernel itself needs none of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The program on the TensorCore -/

omit [FloatOps F] in
/-- The TensorCore's arrays are the indices, the table and the result. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- What the call hands out is one core's part and the other's. -/
theorem st0_eq (d : Dev nD) : (bigSep Finset.univ fun c : Fin ((K (F := F)).nCore 0) => (P m).st 0 d c)
    = iprop(handed d (m (iLoc d)) (m (tLoc d)) (m (oLoc d)) 0 ∗ handed d (m (iLoc d)) (m (tLoc d)) (m (oLoc d)) 1) := by
  show (bigSep (Finset.univ : Finset (Fin 2)) fun c => handed d (m (iLoc d)) (m (tLoc d)) (m (oLoc d)) c.val) = _
  rw [show (Finset.univ : Finset (Fin 2)) = {0, 1} by decide, SparseCore.bigSep_insert' (by decide), bigSep_singleton]
  rfl

omit [FloatOps F] in
/-- What the call takes back is one core's part and the other's, the result gathered. -/
theorem dn0_eq (d : Dev nD) : (bigSep Finset.univ fun c : Fin ((K (F := F)).nCore 0) => (P m).dn 0 d c)
    = iprop(handed d (m (iLoc d)) (m (tLoc d)) (outOf m d) 0 ∗ handed d (m (iLoc d)) (m (tLoc d)) (outOf m d) 1) := by
  show (bigSep (Finset.univ : Finset (Fin 2)) fun c => handed d (m (iLoc d)) (m (tLoc d)) (outOf m d) c.val) = _
  rw [show (Finset.univ : Finset (Fin 2)) = {0, 1} by decide, SparseCore.bigSep_insert' (by decide), bigSep_singleton]
  rfl

/-- What the run leaves: the indices and the table as they were, the result gathered. -/
abbrev FIN (d : Dev nD) : sProp 𝕄 :=
  iprop((iLoc d ↦{fullShare} m (iLoc d)) ∗ (tLoc d ↦{fullShare} m (tLoc d)) ∗ oLoc d ↦{fullShare} outOf m d)

/-- The program on the TensorCore: it splits the arrays between the two cores, runs the call and joins what comes back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [unscopedBufs_eq, two_shares (iLoc d), two_shares (tLoc d), out_rows d (outOf m d)]
  simp only [main, wp_bind, wp_pure]
  iintro ⟨#Hctx, Hst, ⟨Hb, ⟨⟨Hi, Hi0, Hi1⟩, ⟨Ht, Ht0, Ht1⟩, Ho⟩, Hts, -⟩, -⟩
  ihave Ho' := (Entails.of_eq (out_rows (F := F) d (m (oLoc d)))) $$ Ho
  icases Ho' with ⟨Ho0, Ho1⟩
  iapply ((K (F := F)).wp_run (D (F := F)) 𝒱 (EH := EH) (P := P m) κ d 0) $$ [Hst Hi Hi0 Hi1 Ht Ht0 Ht1 Ho0 Ho1 Hb Hts]
  isplitr; · iexact Hctx
  isplitl [Hst]; · iexact Hst
  isplitl [Hi0 Hi1 Ht0 Ht1 Ho0 Ho1]
  · rw [st0_eq]; unfold handed
    isplitl [Hi0 Ht0 Ho0]
    · isplitl [Ht0]; · iexact Ht0
      isplitl [Hi0] <;> iassumption
    · isplitl [Ht1]; · iexact Ht1
      isplitl [Hi1] <;> iassumption
  iintro ⟨Hst, Hdn⟩
  ihave Hdn' := (Entails.of_eq (dn0_eq m d)) $$ Hdn
  unfold handed
  icases Hdn' with ⟨⟨Ht0, Hi0, Ho0⟩, Ht1, Hi1, Ho1⟩
  imodintro
  isplitl [Hst]; · iexact Hst
  isplitr [Hb Hts]
  · isplitl [Hi Hi0 Hi1]
    · isplitl [Hi]; · iexact Hi
      isplitl [Hi0] <;> iassumption
    isplitl [Ht Ht0 Ht1]
    · isplitl [Ht]; · iexact Ht
      isplitl [Ht0] <;> iassumption
    isplitl [Ho0] <;> iassumption
  isplitl [Hb] <;> iassumption

/-- What the final memory of device `d` holds. -/
def fq (d : Dev nD) (s' : Phys nD τ sig (Elt F)) : Prop :=
  s'.mem.mem (oLoc d) = outOf m d ∧ s'.mem.mem (iLoc d) = m (iLoc d) ∧ s'.mem.mem (tLoc d) = m (tLoc d)

omit [FloatOps F] in
/-- An array held whole is what memory holds. -/
theorem agree {ℓ : Loc nD τ sig} {f : Buf (Elt F) ℓ} {s' : Phys nD τ sig (Elt F)} :
    (iprop((ℓ ↦{fullShare} f) ∗ SI s') : sProp 𝕄) ⊢ iprop(⌜s'.mem.mem ℓ = f⌝) := by
  have h := SI_pointsTo_agree (st := s') (ℓ := ℓ) (I := Finset.univ) (q := fullShare) (f := f) (Ix := HIx 1) (Name := ℕ) (U := UU) (Lvl := ℕ)
  exact fun a ha => funext fun i => h a (Idealize.SL.BI.sep_comm a ha) i (Finset.mem_univ i)

omit [FloatOps F] in
/-- What the run leaves, read in the final memory. -/
theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (iLoc d) = m (iLoc d)⌝ : sProp 𝕄) := by
    iintro ⟨⟨Hi, Ht, Ho⟩, HSI⟩; iapply agree; isplitl [Hi] <;> iassumption
  have h2 : iprop(FIN m d ∗ SI s') ⊢ (⌜s'.mem.mem (tLoc d) = m (tLoc d)⌝ : sProp 𝕄) := by
    iintro ⟨⟨Hi, Ht, Ho⟩, HSI⟩; iapply agree; isplitl [Ht] <;> iassumption
  have h3 : iprop(FIN m d ∗ SI s') ⊢ (⌜s'.mem.mem (oLoc d) = outOf m d⌝ : sProp 𝕄) := by
    iintro ⟨⟨Hi, Ht, Ho⟩, HSI⟩; iapply agree; isplitl [Ho] <;> iassumption
  unfold fq
  exact fun a h => ⟨h3 a h, h1 a h, h2 a h⟩

/-! ## The program's run -/

/-- The final state: the result gathered, the arguments unchanged, every semaphore at zero. -/
def QC : PUnit × MemSt nD τ sig (Elt F) → Prop := fun r =>
  (∀ d : Dev nD, r.2.mem (oLoc d) = outOf m d ∧ r.2.mem (iLoc d) = m (iLoc d) ∧ r.2.mem (tLoc d) = m (tLoc d)) ∧ r.2.sem = fun _ => 0

/-- The whole program's run, over any float values: from any memory whose indices all name rows of the table, every fair
    execution ends, with the result gathered, the arguments unchanged and every semaphore at zero. -/
theorem run_main [∀ e, Nonempty (Elt F e)] (hI : ∀ d, InRange (m (iLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hI)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.lean ====
/-
  The certificate: an embedding lookup on the SparseCore's two scalar sequencers, each issuing 8192 one-row copies on one
  semaphore and then draining it, against `jnp.take`. The kernel's run, over any float values, is Proof/Launch.lean's
  `run_main`; what the reference computes is Proof/RefValue.lean's `ref_value`; here they meet in `gath`, the table's row
  at each index, and the claim is put together.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_in_range
public import proofs.«01_k».proof.Proof.Pre
public import proofs.«01_k».proof.Proof.RefValue
public import proofs.«01_k».proof.Proof.Launch
public import Idealize.ShloMosaic.Lib.Quiescent

@[expose] public section

namespace Cert.Proof

open Idealize.ShloMosaic Idealize.SL.Sem
open Cert.Proof.Gather (run_main inRange_of_pre outOf ref_value)

/-- The kernel's frame: with every index in range it ends, the indices and the table unchanged and every semaphore at zero. -/
theorem frame_kernel : Cert.quiescent_Kernel := fun m ρ hp =>
  (θ_run Cert.KernelIdeal.defs _ _).mono (fun _ h => ⟨fun c => (h.1 c).2, h.2⟩)
    (run_main (F := Bits) m ρ fun d => inRange_of_pre (F := Bits) _ _ (hp d))

/-- The same of the ideal kernel. -/
theorem frame_kernelIdeal : Cert.quiescent_KernelIdeal := fun m ρ hp =>
  (θ_run Cert.KernelIdeal.defs _ _).mono (fun _ h => ⟨fun c => (h.1 c).2, h.2⟩)
    (run_main (F := Ideal) m ρ fun d => inRange_of_pre (F := Ideal) _ _ (hp d))

/-- The reference's frame, from any arguments; it has no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The same of the ideal reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same words: row `r` of the result is the table's row at index `r`. -/
theorem bitexact : Cert.bitexact_Kernel_Reference := by
  intro m g m' g' hp hargs
  have hI := fun d => inRange_of_pre (F := Bits) _ _ (hp d)
  refine ⟨fun c => outOf (F := Bits) m c, ?_, ?_⟩
  · exact (θ_run Cert.KernelIdeal.defs _ _).mono (fun _ h => h.1) (run_main (F := Bits) m g hI)
  · refine (θ_run Cert.Reference.defs _ _).mono (fun r h c => ⟨(h c).1.trans ?_, (h c).2⟩) (Cert.Reference.Value.run (F := Bits) m' g')
    rw [(hargs c).1, (hargs c).2]
    exact ref_value (F := Bits) _ _ _ (hI c)

/-- Over the extended reals kernel and reference end with the same array. -/
theorem algebraic : Cert.algebraic_KernelIdeal_ReferenceIdeal := by
  intro m g m' g' hp hargs
  have hI := fun d => inRange_of_pre (F := Ideal) _ _ (hp d)
  refine ⟨fun c => outOf (F := Ideal) m c, ?_, ?_⟩
  · exact (θ_run Cert.KernelIdeal.defs _ _).mono (fun _ h => h.1) (run_main (F := Ideal) m g hI)
  · refine (θ_run Cert.ReferenceIdeal.defs _ _).mono (fun r h c => ⟨(h c).1.trans ?_, (h c).2⟩) (Cert.ReferenceIdeal.Value.run (F := Ideal) m' g')
    rw [(hargs c).1, (hargs c).2]
    exact ref_value (F := Ideal) _ _ _ (hI c)

/-- Everything that is claimed. -/
theorem claim : Cert.Claim := ⟨Cert.Kernel.Gen.facts, Cert.KernelIdeal.Gen.facts, Cert.Reference.Gen.facts, Cert.ReferenceIdeal.Gen.facts, Cert.Pre_in_range.Gen.facts,
  frame_kernel, frame_kernelIdeal, frame_reference, fun m ρ _ => frame_reference m ρ trivial, frame_referenceIdeal,
  fun m ρ _ => frame_referenceIdeal m ρ trivial, trivial, bitexact, algebraic⟩

end Cert.Proof
